-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "shifted_log_norm" .f32 0x421C5302#32 ((Real.log 93905133818286282 : ℝ) : EReal)
  ∧ IdealRules.named_const.Statement Cert.KernelIdeal.κ "shift" .f32 0x42200000#32 ((Real.log (93905133818286282 * (Real.sqrt (13176795 / 2097152))) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x64 : Shape := ⟨2, ![16384, 64]⟩
abbrev S64x64 : Shape := ⟨2, ![64, 64]⟩
abbrev S64x1x1 : Shape := ⟨3, ![64, 1, 1]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64x1x1 : S_.BroadcastsInDim S64x1x1 (![] : Fin 0 → Fin S64x1x1.rank)
  reducesTo_S64x1x1_S_d0_1_2 : S64x1x1.ReducesTo [0, 1, 2] S_

variable [Facts]

def fn_part1 {F : FTy → Type} [FloatOps F] (main_v13 : IVec S_ 1) (main_v16 : IVec S64x1x1 1) : IVec S_ 1 :=
  let main_c_5 : IVec S_ 1 := constantI S_ 1 1#1
  let main_v17 : IVec S_ 1 := (fun x v => Host.reduce IntOp.andi x v reducesTo_S64x1x1_S_d0_1_2 h_S_) main_v16 main_c_5
  let main_v18 : IVec S_ 1 := andi main_v13 main_v17
  main_v18

def fn {F : FTy → Type} [FloatOps F] (main_arg0 : FVec F S16384x64 .f32) (main_arg1 : FVec F S64x64 .f32) (main_arg2 : FVec F S64x64 .f32) (main_arg3 : FVec F S64x1x1 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x1x1 .f32 := Host.absf main_arg3
  let main_cst_4 : FVec F S_ .f32 := constant S_ .f32 0x7F800000#32
  let main_v15 : FVec F S64x1x1 .f32 := broadcastInDim S64x1x1 ![] bcast_S_S64x1x1 main_cst_4
  let main_v16 : IVec S64x1x1 1 := cmpf .olt main_v14 main_v15
  fn_part1 (F := F) main_v13 main_v16
-- ==== Kernel.lean ====
abbrev S16384x64 : Shape := ⟨2, ![16384, 64]⟩
abbrev S64x64 : Shape := ⟨2, ![64, 64]⟩
abbrev S64x1x1 : Shape := ⟨3, ![64, 1, 1]⟩
abbrev S8192x128 : Shape := ⟨2, ![8192, 128]⟩
abbrev S1x64x1x64 : Shape := ⟨4, ![1, 64, 1, 64]⟩
abbrev S1x64x2x64 : Shape := ⟨4, ![1, 64, 2, 64]⟩
abbrev S64x128 : Shape := ⟨2, ![64, 128]⟩
abbrev S64x1 : Shape := ⟨2, ![64, 1]⟩
abbrev S512x128 : Shape := ⟨2, ![512, 128]⟩
abbrev S128 : Shape := ⟨1, ![128]⟩
abbrev S1x128 : Shape := ⟨2, ![1, 128]⟩

abbrev nBuf : Space → Nat
  | .hbm => 15
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64x64, .f32⟩
  | .hbm, ⟨3, _⟩ => ⟨S64x1x1, .f32⟩
  | .hbm, ⟨4, _⟩ => ⟨S8192x128, .f32⟩
  | .hbm, ⟨5, _⟩ => ⟨S1x64x1x64, .f32⟩
  | .hbm, ⟨6, _⟩ => ⟨S1x64x2x64, .f32⟩
  | .hbm, ⟨7, _⟩ => ⟨S64x128, .f32⟩
  | .hbm, ⟨8, _⟩ => ⟨S1x64x1x64, .f32⟩
  | .hbm, ⟨9, _⟩ => ⟨S1x64x2x64, .f32⟩
  | .hbm, ⟨10, _⟩ => ⟨S64x128, .f32⟩
  | .hbm, ⟨11, _⟩ => ⟨S64x1, .f32⟩
  | .hbm, ⟨12, _⟩ => ⟨S64x128, .f32⟩
  | .hbm, ⟨13, _⟩ => ⟨S8192x128, .f32⟩
  | .hbm, ⟨14, _⟩ => ⟨S16384x64, .f32⟩
  | .local _ .vmem, ⟨0, _⟩ => ⟨S512x128, .f32⟩
  | .local _ .vmem, ⟨1, _⟩ => ⟨S512x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S512x128, .f32⟩
  | .local _ .vmem, ⟨6, _⟩ => ⟨S512x128, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "shift" => some ((Real.log (93905133818286282 * (Real.sqrt (13176795 / 2097152))) : ℝ) : EReal)
  | "shifted_log_norm" => some ((Real.log 93905133818286282 : ℝ) : EReal)
  | _ => none
-- ==== ReferenceIdeal.lean ====
abbrev S16384x64 : Shape := ⟨2, ![16384, 64]⟩
abbrev S64x64 : Shape := ⟨2, ![64, 64]⟩
abbrev S64x1x1 : Shape := ⟨3, ![64, 1, 1]⟩
abbrev S_ : Shape := ⟨0, ![]⟩
abbrev S1x1 : Shape := ⟨2, ![1, 1]⟩
abbrev S1x1x1 : Shape := ⟨3, ![1, 1, 1]⟩
abbrev S1x16384x64 : Shape := ⟨3, ![1, 16384, 64]⟩
abbrev S64x1x64 : Shape := ⟨3, ![64, 1, 64]⟩
abbrev S64x16384x64 : Shape := ⟨3, ![64, 16384, 64]⟩

abbrev nBuf : Space → Nat
  | .hbm => 67
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64x64, .f32⟩
  | .hbm, ⟨3, _⟩ => ⟨S64x1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S1x1, .f32⟩
  | .hbm, ⟨9, _⟩ => ⟨S1x1x1, .f32⟩
  | .hbm, ⟨10, _⟩ => ⟨S64x1x1, .f32⟩
  | .hbm, ⟨11, _⟩ => ⟨S64x1x1, .f32⟩
  | .hbm, ⟨12, _⟩ => ⟨S64x1x1, .f32⟩
  | .hbm, ⟨13, _⟩ => ⟨S_, .f32⟩
  | .hbm, ⟨14, _⟩ => ⟨S1x1, .f32⟩
  | .hbm, ⟨15, _⟩ => ⟨S1x1x1, .f32⟩
  | .hbm, ⟨16, _⟩ => ⟨S64x1x1, .f32⟩
  | .hbm, ⟨17, _⟩ => ⟨S64x1x1, .f32⟩
  | .hbm, ⟨18, _⟩ => ⟨S1x16384x64, .f32⟩
  | .hbm, ⟨19, _⟩ => ⟨S64x1x64, .f32⟩
  | .hbm, ⟨20, _⟩ => ⟨S64x1x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S64x1x64, .f32⟩
  | .hbm, ⟨27, _⟩ => ⟨S64x1x64, .f32⟩
  | .hbm, ⟨28, _⟩ => ⟨S_, .f32⟩
  | .hbm, ⟨29, _⟩ => ⟨S64x1x64, .f32⟩
  | .hbm, ⟨30, _⟩ => ⟨S64x1x64, .f32⟩
  | .hbm, ⟨31, _⟩ => ⟨S64x1x64, .f32⟩
  | .hbm, ⟨32, _⟩ => ⟨S64x1x64, .f32⟩
  | .hbm, ⟨33, _⟩ => ⟨S_, .f32⟩
  | .hbm, ⟨34, _⟩ => ⟨S64x1x64, .f32⟩
  | .hbm, ⟨35, _⟩ => ⟨S64x1x64, .f32⟩
  | .hbm, ⟨36, _⟩ => ⟨S64x16384x64, .f32⟩
  | .hbm, ⟨37, _⟩ => ⟨S64x16384x64, .f32⟩
  | .hbm, ⟨38, _⟩ => ⟨S64x16384x64, .f32⟩
  | .hbm, ⟨39, _⟩ => ⟨S_, .f32⟩
  | .hbm, ⟨40, _⟩ => ⟨S64x16384x64, .f32⟩
  | .hbm, ⟨41, _⟩ => ⟨S64x16384x64, .f32⟩
  | .hbm, ⟨42, _⟩ => ⟨S64x16384x64, .f32⟩
  | .hbm, ⟨43, _⟩ => ⟨S64x16384x64, .f32⟩
  | .hbm, ⟨44, _⟩ => ⟨S64x16384x64, .f32⟩
  | .hbm, ⟨45, _⟩ => ⟨S64x16384x64, .f32⟩
  | .hbm, ⟨46, _⟩ => ⟨S64x1x1, .f32⟩
  | .hbm, ⟨47, _⟩ => ⟨S64x16384x64, .f32⟩
  | .hbm, ⟨48, _⟩ => ⟨S64x16384x64, .f32⟩
  | .hbm, ⟨49, _⟩ => ⟨S_, .f32⟩
  | .hbm, ⟨50, _⟩ => ⟨S16384x64, .f32⟩
  | .hbm, ⟨51, _⟩ => ⟨S16384x64, .f32⟩
  | .hbm, ⟨52, _⟩ => ⟨S_, .f32⟩
  | .hbm, ⟨53, _⟩ => ⟨S16384x64, .f32⟩
  | .hbm, ⟨54, _⟩ => ⟨S16384x64, .i1⟩
  | .hbm, ⟨55, _⟩ => ⟨S_, .f32⟩
  | .hbm, ⟨56, _⟩ => ⟨S_, .f32⟩
  | .hbm, ⟨57, _⟩ => ⟨S16384x64, .f32⟩
  | .hbm, ⟨58, _⟩ => ⟨S16384x64, .f32⟩
  | .hbm, ⟨59, _⟩ => ⟨S1x16384x64, .f32⟩
  | .hbm, ⟨60, _⟩ => ⟨S64x16384x64, .f32⟩
  | .hbm, ⟨61, _⟩ => ⟨S64x16384x64, .f32⟩
  | .hbm, ⟨62, _⟩ => ⟨S64x16384x64, .f32⟩
  | .hbm, ⟨63, _⟩ => ⟨S_, .f32⟩
  | .hbm, ⟨64, _⟩ => ⟨S16384x64, .f32⟩
  | .hbm, ⟨65, _⟩ => ⟨S16384x64, .f32⟩
  | .hbm, ⟨66, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_call0_v0 : Ref sig .tc := ⟨.hbm, 56, rfl⟩
abbrev main_call0_v1 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.Mixture.lean ====
/- The log density of a mixture of 64 Gaussians at one point, in the two forms the programs compute, over the extended
   reals: `fused`, which expands the square and leaves the sum of exponentials unscaled up to a constant shift, and
   `mixture`, which takes the log of the softmaxed weights and the sum of exponentials scaled by its largest term. At
   finite arguments they are equal. -/
module

public import Idealize.ShloMosaic.PureOps.Ideal

@[expose] public section

noncomputable section

namespace Cert.Mixture

open Idealize.ShloMosaic

/-! ## The constants -/

/-- Two pi as the single-precision float the reference takes the logarithm of. -/
def twoPi : ℝ := 13176795 / 2097152
/-- The constant the kernel adds to every exponent, and the one it takes off the logarithm of the sum. -/
def normShift : ℝ := Real.log 93905133818286282
def shift : ℝ := Real.log (93905133818286282 * Real.sqrt (13176795 / 2097152))

theorem ofBits_half : Ideal.ofBits .f32 0x3F000000#32 = ((1 / 2 : ℝ) : EReal) := by
  simp [Ideal.ofBits, Ideal.ieee, -EReal.coe_mul]; norm_num
theorem ofBits_negHalf : Ideal.ofBits .f32 0xBF000000#32 = ((-(1 / 2) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_twoPi : Ideal.ofBits .f32 0x40C90FDB#32 = ((twoPi : ℝ) : EReal) := by
  simp [Ideal.ofBits, Ideal.ieee, -EReal.coe_mul, twoPi]; norm_num
theorem ofBits_negInf : Ideal.ofBits .f32 0xFF800000#32 = ⊥ := by
  simp [Ideal.ofBits, Ideal.ieee]
theorem ofBits_posInf : Ideal.ofBits .f32 0x7F800000#32 = ⊤ := by
  simp [Ideal.ofBits, Ideal.ieee]

/-- The two shifts differ by half the logarithm of two pi. -/
theorem shift_eq : shift = normShift + 1 / 2 * Real.log twoPi := by
  unfold shift normShift twoPi
  rw [Real.log_mul (by norm_num) (by positivity), Real.log_sqrt (by norm_num)]
  ring

/-! ## The two forms -/

/-- The largest of 64 values. -/
def top (f : Fin 64 → EReal) : EReal := Finset.fold max ⊥ f Finset.univ

/-- The kernel's form: one component's exponent is a polynomial in the point. -/
def fused (x : EReal) (μ lv w : Fin 64 → EReal) : EReal :=
  Ideal.log (∑ k, Ideal.exp
    ((normShift : EReal) - ((1 / 2 : ℝ) : EReal) * lv k - ((1 / 2 : ℝ) : EReal) * Ideal.exp (0 - lv k) * μ k * μ k
        + (w k - (top w + Ideal.log (∑ i, Ideal.exp (w i - top w))))
      + x * (Ideal.exp (0 - lv k) * μ k + ((-(1 / 2) : ℝ) : EReal) * Ideal.exp (0 - lv k) * x)))
    - (shift : EReal)

/-- The reference's form: one component's log density with the log of its softmaxed weight, -/
def component (x : EReal) (μ lv w : Fin 64 → EReal) (k : Fin 64) : EReal :=
  ((-(1 / 2) : ℝ) : EReal) * Ideal.log (twoPi : EReal) - ((1 / 2 : ℝ) : EReal) * lv k
      - ((1 / 2 : ℝ) : EReal) * Ideal.exp (-lv k) * Ideal.pow (x - μ k) ((2 : ℝ) : EReal)
    + Ideal.log (Ideal.div (Ideal.exp (w k - max ⊥ (top w))) (∑ i, Ideal.exp (w i - max ⊥ (top w))))

/-- the largest of them, or zero if that is infinite, -/
def scale (f : Fin 64 → EReal) : EReal := if max (top f) (-top f) < ⊤ then top f else 0

/-- and the logarithm of the sum of their exponentials. -/
def mixture (x : EReal) (μ lv w : Fin 64 → EReal) : EReal :=
  Ideal.log (∑ k, Ideal.exp (component x μ lv w k - scale (component x μ lv w))) + scale (component x μ lv w)

/-! ## At finite arguments -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem sum_exp_pos (f : Fin 64 → ℝ) : 0 < ∑ k, Real.exp (f k) :=
  Finset.sum_pos (fun k _ => Real.exp_pos _) ⟨0, Finset.mem_univ _⟩

theorem log_of_pos {r : ℝ} (h : 0 < r) : Ideal.log (r : EReal) = (Real.log r : EReal) := by
  rw [Ideal.log_coe, if_neg (not_le.2 h)]

/-- The logarithm of a sum of exponentials of reals. -/
theorem log_sum_exp (f : Fin 64 → ℝ) :
    Ideal.log (∑ k, ((Real.exp (f k) : ℝ) : EReal)) = (Real.log (∑ k, Real.exp (f k)) : EReal) := by
  rw [coe_sum, log_of_pos (sum_exp_pos f)]

/-- The largest of 64 reals is one of them. -/
theorem top_coe (f : Fin 64 → ℝ) : ∃ M : ℝ, top (fun k => (f k : EReal)) = (M : EReal) := by
  obtain ⟨k, -, hk⟩ := Finset.exists_mem_eq_sup Finset.univ Finset.univ_nonempty fun k => (f k : EReal)
  exact ⟨f k, hk⟩

/-- Taking a real off every exponent takes it off the logarithm of the sum. -/
theorem log_sum_exp_sub (f : Fin 64 → ℝ) (g : ℝ) :
    Real.log (∑ k, Real.exp (f k - g)) = Real.log (∑ k, Real.exp (f k)) - g := by
  simp only [Real.exp_sub, ← Finset.sum_div]
  rw [Real.log_div (sum_exp_pos f).ne' (Real.exp_pos g).ne', Real.log_exp]

/-- One component's log density over the reals. -/
def logTerm (x : ℝ) (μ lv w : Fin 64 → ℝ) (k : Fin 64) : ℝ :=
  -(1 / 2) * Real.log twoPi - 1 / 2 * lv k - 1 / 2 * Real.exp (-lv k) * (x - μ k) ^ 2
    + (w k - Real.log (∑ i, Real.exp (w i)))

theorem twoPi_pos : 0 < twoPi := by unfold twoPi; norm_num

theorem component_coe (x : ℝ) (μ lv w : Fin 64 → ℝ) :
    component x (fun k => (μ k : EReal)) (fun k => (lv k : EReal)) (fun k => (w k : EReal))
      = fun k => (logTerm x μ lv w k : EReal) := by
  funext k
  obtain ⟨M, hM⟩ := top_coe w
  have hs := sum_exp_pos fun i => w i - M
  simp only [component, hM, bot_le, sup_of_le_right, ← EReal.coe_sub, Ideal.exp_coe, coe_sum]
  rw [Ideal.div_coe hs.ne', ← EReal.coe_mul (Real.exp (w k - M)), log_of_pos twoPi_pos,
    log_of_pos (mul_pos (Real.exp_pos (w k - M)) (one_div_pos.2 hs)), Ideal.pow_coe_coe,
    ← EReal.coe_neg, Ideal.exp_coe]
  simp only [← EReal.coe_sub, ← EReal.coe_mul, ← EReal.coe_add]
  congr 1
  rw [Real.log_mul (Real.exp_pos _).ne' (by positivity), Real.log_exp, one_div (∑ i, Real.exp (w i - M)),
    Real.log_inv, log_sum_exp_sub]
  unfold logTerm
  rw [show Real.rpow (x - μ k) 2 = (x - μ k) ^ 2 from Real.rpow_two _]
  ring

theorem mixture_coe (x : ℝ) (μ lv w : Fin 64 → ℝ) :
    mixture x (fun k => (μ k : EReal)) (fun k => (lv k : EReal)) (fun k => (w k : EReal))
      = (Real.log (∑ k, Real.exp (logTerm x μ lv w k)) : EReal) := by
  obtain ⟨G, hG⟩ := top_coe (logTerm x μ lv w)
  have hs : scale (fun k => (logTerm x μ lv w k : EReal)) = (G : EReal) := by
    unfold scale
    rw [hG, if_pos (max_lt (EReal.coe_lt_top _) (by rw [← EReal.coe_neg]; exact EReal.coe_lt_top _))]
  simp only [mixture, component_coe, hs, ← EReal.coe_sub, Ideal.exp_coe]
  rw [log_sum_exp, ← EReal.coe_add, log_sum_exp_sub, sub_add_cancel]

theorem fused_coe (x : ℝ) (μ lv w : Fin 64 → ℝ) :
    fused x (fun k => (μ k : EReal)) (fun k => (lv k : EReal)) (fun k => (w k : EReal))
      = (Real.log (∑ k, Real.exp (logTerm x μ lv w k)) : EReal) := by
  obtain ⟨M, hM⟩ := top_coe w
  simp only [fused, hM, zero_sub, ← EReal.coe_neg, ← EReal.coe_sub, ← EReal.coe_mul, ← EReal.coe_add, Ideal.exp_coe,
    log_sum_exp, log_sum_exp_sub]
  congr 1
  rw [← log_sum_exp_sub]
  refine congrArg Real.log (Finset.sum_congr rfl fun k _ => congrArg Real.exp ?_)
  rw [shift_eq]
  unfold logTerm
  ring

/-- The two forms agree wherever the arguments are finite. -/
theorem fused_eq_mixture (x : EReal) (μ lv w : Fin 64 → EReal) (hx : ∃ r : ℝ, x = r) (hμ : ∀ k, ∃ r : ℝ, μ k = r)
    (hl : ∀ k, ∃ r : ℝ, lv k = r) (hw : ∀ k, ∃ r : ℝ, w k = r) : fused x μ lv w = mixture x μ lv w := by
  obtain ⟨x, rfl⟩ := hx
  choose μ' hμ using hμ
  choose lv' hl using hl
  choose w' hw using hw
  obtain rfl : μ = fun k => (μ' k : EReal) := funext hμ
  obtain rfl : lv = fun k => (lv' k : EReal) := funext hl
  obtain rfl : w = fun k => (w' k : EReal) := funext hw
  rw [fused_coe, mixture_coe]

end Cert.Mixture

end
-- ==== Proof.Body.lean ====
/- What the kernel's body stores, read at one index of its block. -/
module

public import proofs.«01_k».proof.Proof.Gen.KernelIdeal.Frame
public import proofs.«01_k».proof.Proof.Mixture
public import Idealize.ShloMosaic.Lib.Pointwise

@[expose] public section

set_option maxRecDepth 16384

noncomputable section

namespace Cert.KernelIdeal.Body

open Cert.KernelIdeal Cert.KernelIdeal.Gen Idealize.ShloMosaic

/-- Row `k` of a 64-row vector, spread over the block's 512 rows, reads that row at the lane. -/
theorem row_apply (v : FVec Ideal S64x128 .f32) (k : ℕ) (h : S64x128.Slices ![k, 0] S1x128) (p : Fin 512) (q : Fin 128) :
    broadcastTo S512x128 (extractStridedSlice S1x128 ![k, 0] v h) broadcasts_S1x128_S512x128 (ix2 p q : S512x128.Idx)
      = v (ix2 (Fin.ofNat 64 k) q) := by
  have hk : k + 1 ≤ 64 := h.2 0
  pointwise
  refine congrArg v ((ix2_inj ..).2 ⟨Fin.ext ?_, rfl⟩)
  exact (Nat.mod_eq_of_lt hk).symm

/-- A component's constant coefficient, at a lane. -/
theorem const_apply (v0 v1 v2 : Vec Ideal S64x128 .f32) (k : Fin 64) (q : Fin 128) :
    (k0_pay4 (F := Ideal) v0 v1 v2 (ix2 k q) : EReal)
      = (Mixture.normShift : EReal) - ((1 / 2 : ℝ) : EReal) * v1 (ix2 k q)
          - ((1 / 2 : ℝ) : EReal) * Ideal.exp (0 - v1 (ix2 k q)) * v0 (ix2 k q) * v0 (ix2 k q)
        + (v2 (ix2 k q) - (Mixture.top (fun i => v2 (ix2 i q))
          + Ideal.log (∑ i, Ideal.exp (v2 (ix2 i q) - Mixture.top (fun i => v2 (ix2 i q)))))) := by
  pointwise [k0_pay4, k0_pay1]
  rw [Mixture.ofBits_half, Mixture.ofBits_negInf]
  rfl

/-- A component's linear coefficient, at a lane. -/
theorem linear_apply (v0 v1 : Vec Ideal S64x128 .f32) (k : Fin 64) (q : Fin 128) :
    (k0_pay2 (F := Ideal) v0 v1 (ix2 k q) : EReal) = Ideal.exp (0 - v1 (ix2 k q)) * v0 (ix2 k q) := by
  pointwise [k0_pay2, k0_pay1]

/-- A component's quadratic coefficient, at a lane. -/
theorem square_apply (v1 : Vec Ideal S64x128 .f32) (k : Fin 64) (q : Fin 128) :
    (k0_pay3 (F := Ideal) v1 (ix2 k q) : EReal) = ((-(1 / 2) : ℝ) : EReal) * Ideal.exp (0 - v1 (ix2 k q)) := by
  pointwise [k0_pay3, k0_pay1]
  rw [Mixture.ofBits_negHalf]

/-- One component's contribution to the sum of exponentials, at the value `x` and the lane `q`. -/
def term (a c d : Vec Ideal S64x128 .f32) (x : EReal) (q : Fin 128) (k : ℕ) : EReal :=
  Ideal.exp (a (ix2 (Fin.ofNat 64 k) q) + x * (c (ix2 (Fin.ofNat 64 k) q) + d (ix2 (Fin.ofNat 64 k) q) * x))

theorem exp_apply {s : Shape} (v : FVec Ideal s .f32) (i : s.Idx) : exp v i = Ideal.exp (v i) := rfl
theorem log_apply {s : Shape} (v : FVec Ideal s .f32) (i : s.Idx) : log v i = Ideal.log (v i) := rfl
theorem broadcast_apply {s : Shape} (v : EReal) (i : s.Idx) : broadcast (α := EReal) s v i = v := rfl

theorem hz : (![0, 0] : Fin 2 → Nat) = fun _ => 0 := funext fun a => by fin_cases a <;> rfl

theorem ld0 (x : Vec Ideal S64x128 .f32) : View.ld x r0_0 = x := View.ld_unit_zero hz _ x
theorem ld1 (x : Vec Ideal S512x128 .f32) : View.ld x r0_1 = x := View.ld_unit_zero hz _ x

theorem cast_apply {α : Type} (x0 : S512x128.Idx → α) (h : S512x128.ShapeCasts S512x128) (p : Fin 512) (q : Fin 128) :
    shapeCast S512x128 x0 h (ix2 p q) = x0 (ix2 p q) := by
  pointwise

/-- The body's 64 additions are the sum over the components. -/
theorem stored_range (x0 : Vec Ideal S512x128 .f32) (x1 x2 x3 : Vec Ideal S64x128 .f32) (p : Fin 512) (q : Fin 128) :
    (out0_4 (F := Ideal) x0 x1 x2 x3 (ix2 p q) : EReal)
      = Ideal.log (∑ k ∈ Finset.range 64, term (k0_pay4 x1 x2 x3) (k0_pay2 x1 x2) (k0_pay3 x2) (x0 (ix2 p q)) q k)
        - (Mixture.shift : EReal) := by
  unfold_out out0_4
  rw [View.canon_unit_zero hz]
  simp only [ld0, ld1]
  simp only [
    k0_pay5, k0_pay6, k0_pay7, k0_pay8, k0_pay9, k0_pay10, k0_pay11, k0_pay12, k0_pay13, k0_pay14, k0_pay15, k0_pay16,
    k0_pay17, k0_pay18, k0_pay19, k0_pay20, k0_pay21, k0_pay22, k0_pay23, k0_pay24, k0_pay25, k0_pay26, k0_pay27,
    k0_pay28, k0_pay29, k0_pay30, k0_pay31, k0_pay32, k0_pay33, k0_pay34, k0_pay35, k0_pay36, k0_pay37, k0_pay38,
    k0_pay39, k0_pay40, k0_pay41, k0_pay42, k0_pay43, k0_pay44, k0_pay45]
  simp only [ValueIdx.addf_apply, ValueIdx.mulf_apply, ValueIdx.subf_apply, exp_apply, log_apply, broadcast_apply, row_apply]
  simp only [cast_apply]
  have fold : ∀ k : ℕ, Ideal.exp (k0_pay4 x1 x2 x3 (ix2 (Fin.ofNat 64 k) q)
      + x0 (ix2 p q) * (k0_pay2 x1 x2 (ix2 (Fin.ofNat 64 k) q) + k0_pay3 x2 (ix2 (Fin.ofNat 64 k) q) * x0 (ix2 p q)))
        = term (k0_pay4 x1 x2 x3) (k0_pay2 x1 x2) (k0_pay3 x2) (x0 (ix2 p q)) q k := fun k => rfl
  simp only [fold]
  generalize term (k0_pay4 x1 x2 x3) (k0_pay2 x1 x2) (k0_pay3 x2) (x0 (ix2 p q)) q = e
  simp only [Finset.sum_range_succ, Finset.sum_range_zero]
  refine congrArg₂ (fun u v : EReal => Ideal.log u - v) ?_ rfl
  iterate 63 refine congrArg (fun u : EReal => u + _) ?_
  exact congrArg (fun u : EReal => u + _) Ideal.ofBits_zero_f32

/-- What the body stores at row `p` and lane `q` is the fused form at the point there, over the lane's components. -/
theorem stored_apply (x0 : Vec Ideal S512x128 .f32) (x1 x2 x3 : Vec Ideal S64x128 .f32) (p : Fin 512) (q : Fin 128) :
    (out0_4 (F := Ideal) x0 x1 x2 x3 (ix2 p q) : EReal)
      = Mixture.fused (x0 (ix2 p q)) (fun k => x1 (ix2 k q)) (fun k => x2 (ix2 k q)) (fun k => x3 (ix2 k q)) := by
  rw [stored_range, Finset.sum_range]
  unfold Mixture.fused term
  simp only [Fin.ofNat_val_eq_self, const_apply, linear_apply, square_apply]

end Cert.KernelIdeal.Body

end
-- ==== Proof.Result.lean ====
/- The kernel's run, read: its result is the fused form at every index of the arguments. -/
module

public import proofs.«01_k».proof.Proof.Body
public import Idealize.ShloMosaic.Lib.Pipeline.ValueKit
public import Idealize.ShloMosaic.Lib.Claim
public import Idealize.ShloMosaic.Lib.StableHlo.ReadAt

@[expose] public section

set_option maxRecDepth 16384

noncomputable section

namespace Cert.KernelIdeal.Result

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arrays the region reads, in terms of the arguments -/

/-- The points, two rows of them to a row of the array. -/
theorem points_apply (c : Dev nD) (r : Fin 8192) (l : Fin 128) (b : Fin 16384) (j : Fin 64)
    (hb : b.val = r.val * 2 + l.val / 64) (hj : j.val = l.val % 64) :
    (V m c main_v0 : S8192x128.Idx → EReal) (ix2 r l)
      = (m ((c.tc : Thread nD τ).loc main_arg0) : S16384x64.Idx → EReal) (ix2 b j) := by
  unfold V V0
  after_reads_at
  exact congrArg (m _) ((ix2_inj ..).2 ⟨Fin.ext hb.symm, Fin.ext hj.symm⟩)

theorem means_apply (c : Dev nD) (k : Fin 64) (l : Fin 128) (j : Fin 64) (hj : j.val = l.val % 64) :
    (V m c main_v3 : S64x128.Idx → EReal) (ix2 k l)
      = (m ((c.tc : Thread nD τ).loc main_arg1) : S64x64.Idx → EReal) (ix2 k j) := by
  unfold V V0
  after_reads_at
  exact congrArg (m _) ((ix2_inj ..).2 ⟨rfl, Fin.ext hj.symm⟩)

theorem logvars_apply (c : Dev nD) (k : Fin 64) (l : Fin 128) (j : Fin 64) (hj : j.val = l.val % 64) :
    (V m c main_v6 : S64x128.Idx → EReal) (ix2 k l)
      = (m ((c.tc : Thread nD τ).loc main_arg2) : S64x64.Idx → EReal) (ix2 k j) := by
  unfold V V0
  after_reads_at
  exact congrArg (m _) ((ix2_inj ..).2 ⟨rfl, Fin.ext hj.symm⟩)

theorem weights_apply (c : Dev nD) (k : Fin 64) (l : Fin 128) :
    (V m c main_v8 : S64x128.Idx → EReal) (ix2 k l)
      = (m ((c.tc : Thread nD τ).loc main_arg3) : S64x1x1.Idx → EReal) (ix3 k 0 0) := by
  unfold V V0
  after_reads_at

/-! ## The array the region writes -/

/-- The fused form at every place of the array of points, over the components at its lane. -/
def written (c : Dev nD) : S8192x128.Idx → EReal := fun i =>
  Mixture.fused ((V m c main_v0 : S8192x128.Idx → EReal) i)
    (fun k => (V m c main_v3 : S64x128.Idx → EReal) (ix2 k (i 1)))
    (fun k => (V m c main_v6 : S64x128.Idx → EReal) (ix2 k (i 1)))
    (fun k => (V m c main_v8 : S64x128.Idx → EReal) (ix2 k (i 1)))

/-- The blocks of the components' arrays are the arrays. -/
theorem index_whole (t : Fin cfg0.N) :
    win0_1.index t = ![0, 0] ∧ win0_2.index t = ![0, 0] ∧ win0_3.index t = ![0, 0] := by
  revert t; decide +kernel

theorem index_rows (t : Fin cfg0.N) : win0_0.index t = ![t.val, 0] ∧ win0_4.index t = ![t.val, 0] := by
  revert t; decide +kernel

theorem block_means (c : Dev nD) (t : Fin cfg0.N) (k : Fin 64) (q : Fin 128) :
    (iblk m c 1 t : S64x128.Idx → EReal) (ix2 k q) = (V m c main_v3 : S64x128.Idx → EReal) (ix2 k q) := by
  unfold iblk
  generalize V m c = v
  blk_ext [index_whole t]

theorem block_logvars (c : Dev nD) (t : Fin cfg0.N) (k : Fin 64) (q : Fin 128) :
    (iblk m c 2 t : S64x128.Idx → EReal) (ix2 k q) = (V m c main_v6 : S64x128.Idx → EReal) (ix2 k q) := by
  unfold iblk
  generalize V m c = v
  blk_ext [index_whole t]

theorem block_weights (c : Dev nD) (t : Fin cfg0.N) (k : Fin 64) (q : Fin 128) :
    (iblk m c 3 t : S64x128.Idx → EReal) (ix2 k q) = (V m c main_v8 : S64x128.Idx → EReal) (ix2 k q) := by
  unfold iblk
  generalize V m c = v
  blk_ext [index_whole t]

/-- The block of points at grid point `t` is the 512 rows from row `512 t`, -/
theorem block_points (c : Dev nD) (t : Fin cfg0.N) (p : Fin 512) (q : Fin 128) (r : Fin 8192)
    (hr : r.val = t.val * 512 + p.val) :
    (iblk m c 0 t : S512x128.Idx → EReal) (ix2 p q) = (V m c main_v0 : S8192x128.Idx → EReal) (ix2 r q) := by
  unfold iblk
  generalize V m c = v
  blk_ext [index_rows t]

/-- and so is the block written. -/
theorem place_eq (t : Fin cfg0.N) (p : Fin 512) (q : Fin 128) (r : Fin 8192) (hr : r.val = t.val * 512 + p.val) :
    ((win0_4.blk t).view.emb (ix2 p q : S512x128.Idx) : S8192x128.Idx) = ix2 r q := by
  blk_ext [index_rows t]

/-- So the array the region writes ends at the fused form. -/
theorem final_array (c : Dev nD) : (dats m 0 c).arrAt 4 cfg0.N = written m c := by
  refine (dats m 0 c).arrAt_eq_of_covers 4 _ (by decide +kernel) fun t hf y => ?_
  blk_simp
  rw [after0_4]
  obtain ⟨p, q, rfl⟩ : ∃ (p : Fin 512) (q : Fin 128), y = (ix2 p q : S512x128.Idx) :=
    ⟨y 0, y 1, by funext a; fin_cases a <;> rfl⟩
  have ht : t.val < 16 := lt_of_lt_of_eq t.isLt N_0
  refine (Body.stored_apply _ _ _ _ p q).trans ?_
  refine Eq.trans ?_ (congrArg (written m c) (place_eq t p q ⟨t.val * 512 + p.val, by omega⟩ rfl)).symm
  simp only [block_means, block_logvars, block_weights]
  rw [block_points m c t p q ⟨t.val * 512 + p.val, by omega⟩ rfl]
  rfl

/-! ## The result -/

/-- Row `b` and column `j` of the result is row `b / 2` and lane `64 (b mod 2) + j` of the array written. -/
theorem result_apply (c : Dev nD) (b : Fin 16384) (j : Fin 64) :
    (Pipeline.afterTail₀ cfgs (dats m) 0 (V0 m) [hostOps1] c main_v10 : S16384x64.Idx → EReal) (ix2 b j)
      = Mixture.fused ((m ((c.tc : Thread nD τ).loc main_arg0) : S16384x64.Idx → EReal) (ix2 b j))
          (fun k => (m ((c.tc : Thread nD τ).loc main_arg1) : S64x64.Idx → EReal) (ix2 k j))
          (fun k => (m ((c.tc : Thread nD τ).loc main_arg2) : S64x64.Idx → EReal) (ix2 k j))
          (fun k => (m ((c.tc : Thread nD τ).loc main_arg3) : S64x1x1.Idx → EReal) (ix3 k 0 0)) := by
  have h9 : Pipeline.withArrays spec0 c (V0 m c) (fun w => (dats m 0 c).arrAt w cfg0.N) (Proc.devRef .tc main_v9)
      = written m c :=
    (Pipeline.withArrays_arr spec0 (by decide) c (V0 m c) (fun w => (dats m 0 c).arrAt w cfg0.N) 4).trans (final_array m c)
  unfold Pipeline.afterTail₀
  generalize Pipeline.withArrays (cfgs 0).spec c (V0 m c) (fun w => (dats m 0 c).arrAt w (cfgs 0).N) = W at h9 ⊢
  after_reads_at
  refine (congrFun h9 _).trans ?_
  have hb : b.val = b.val / 2 * 2 + (b.val % 2 * 64 + j.val) / 64 := by omega
  have hj : j.val = (b.val % 2 * 64 + j.val) % 64 := by omega
  unfold written
  rw [points_apply m c _ _ b j hb hj]
  congr 1
  · exact funext fun k => means_apply m c k _ j hj
  · exact funext fun k => logvars_apply m c k _ j hj
  · exact funext fun k => weights_apply m c k _

/-- The kernel runs to its result and leaves its arguments. -/
theorem run : θ_run defs (onTc (τ := τ) (main (F := Ideal))) ⟨m, fun _ => 0, ρ⟩ fun r => ∀ c : Dev nD,
      r.2.mem ((c.tc : Thread nD τ).loc main_v10) = Pipeline.afterTail₀ cfgs (dats m) 0 (V0 m) [hostOps1] c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h.1 c).2 main_v10 (Pipeline.mem_restRefs_of main_v10 (by decide) (by decide)), h.2 c⟩)
    (θ_run_and (run_main m ρ) (unchanged m ρ))

end Cert.KernelIdeal.Result

end
-- ==== Proof.Reference.lean ====
/- The reference's result, read at one index. -/
module

public import proofs.«01_k».proof.Proof.Gen.ReferenceIdeal.Run
public import proofs.«01_k».proof.Proof.Mixture
public import Idealize.ShloMosaic.Lib.Pointwise
public import Idealize.ShloMosaic.Lib.Tactic.CleanTypes

@[expose] public section

set_option maxRecDepth 16384

noncomputable section

namespace Cert.ReferenceIdeal.Term

open Cert.ReferenceIdeal Cert.ReferenceIdeal.Gen Idealize.ShloMosaic Idealize.ShloMosaic.TcCoe Idealize.SL.Sem

/-! ## The steps of the reference, over whole arrays -/

/-- The weights with their largest taken off, -/
def centred (x3 : FVec Ideal S64x1x1 .f32) : FVec Ideal S64x1x1 .f32 :=
  subf x3 (broadcastInDim S64x1x1 ![0, 1, 2] bcast_S1x1x1_S64x1x1_0_1_2 (broadcastInDim S1x1x1 ![1, 2]
    bcast_S1x1_S1x1x1_1_2 (maximumf (broadcastInDim S1x1 ![] bcast_S_S1x1 (constant S_ .f32 0xFF800000#32))
    (Host.reduce FloatOps.maximumf x3 (constant S_ .f32 0xFF800000#32) reducesTo_S64x1x1_S1x1_d0 h_S_))))

/-- their softmax, -/
def weights (x3 : FVec Ideal S64x1x1 .f32) : FVec Ideal S64x1x1 .f32 :=
  Host.divf (Host.exp (centred x3)) (broadcastInDim S64x1x1 ![0, 1, 2] bcast_S1x1x1_S64x1x1_0_1_2 (broadcastInDim
    S1x1x1 ![1, 2] bcast_S1x1_S1x1x1_1_2 (Host.reduceAdd (Host.exp (centred x3)) (constant S_ .f32 0x00000000#32)
    reducesTo_S64x1x1_S1x1_d0 h_S_)))

/-- the log density of every component at every point, -/
def densities (x0 : FVec Ideal S16384x64 .f32) (x1 x2 : FVec Ideal S64x64 .f32) (p : FVec Ideal S64x1x1 .f32) :
    FVec Ideal S64x16384x64 .f32 :=
  addf (subf (broadcastInDim S64x16384x64 ![0, 1, 2] bcast_S64x1x64_S64x16384x64_0_1_2 (subf (broadcastInDim S64x1x64
    ![] bcast_S_S64x1x64 (id (mulf (constant S_ .f32 0xBF000000#32) (Host.log (constant S_ .f32 0x40C90FDB#32)))))
    (mulf (broadcastInDim S64x1x64 ![] bcast_S_S64x1x64 (constant S_ .f32 0x3F000000#32)) (broadcastInDim S64x1x64
    ![0, 2] bcast_S64x64_S64x1x64_0_2 x2)))) (mulf (broadcastInDim S64x16384x64 ![0, 1, 2]
    bcast_S64x1x64_S64x16384x64_0_1_2 (mulf (broadcastInDim S64x1x64 ![] bcast_S_S64x1x64 (constant S_ .f32
    0x3F000000#32)) (Host.exp (Host.negf (broadcastInDim S64x1x64 ![0, 2] bcast_S64x64_S64x1x64_0_2 x2))))) (Host.powf
    (subf (broadcastInDim S64x16384x64 ![0, 1, 2] bcast_S1x16384x64_S64x16384x64_0_1_2 (broadcastInDim S1x16384x64
    ![1, 2] bcast_S16384x64_S1x16384x64_1_2 x0)) (broadcastInDim S64x16384x64 ![0, 1, 2]
    bcast_S64x1x64_S64x16384x64_0_1_2 (broadcastInDim S64x1x64 ![0, 2] bcast_S64x64_S64x1x64_0_2 x1))) (broadcastInDim
    S64x16384x64 ![] bcast_S_S64x16384x64 (constant S_ .f32 0x40000000#32))))) (broadcastInDim S64x16384x64 ![0, 1, 2]
    bcast_S64x1x1_S64x16384x64_0_1_2 (Host.log p))

/-- the largest over the components, -/
def greatest (g : FVec Ideal S64x16384x64 .f32) : FVec Ideal S16384x64 .f32 :=
  Host.reduce FloatOps.maximumf g (constant S_ .f32 0xFF800000#32) reducesTo_S64x16384x64_S16384x64_d0 h_S_

/-- that where it is finite, and zero elsewhere, -/
def finite (r : FVec Ideal S16384x64 .f32) : FVec Ideal S16384x64 .f32 :=
  select (cmpf .olt (Host.absf r) (broadcastInDim S16384x64 ![] bcast_S_S16384x64 (constant S_ .f32 0x7F800000#32))) r
    (broadcastInDim S16384x64 ![] bcast_S_S16384x64 (id (constant S_ .f32 0x00000000#32)))

/-- and the logarithm of the sum of exponentials, scaled by it. -/
def logSum (g : FVec Ideal S64x16384x64 .f32) (s : FVec Ideal S16384x64 .f32) : FVec Ideal S16384x64 .f32 :=
  addf (Host.log (Host.reduceAdd (Host.exp (subf g (broadcastInDim S64x16384x64 ![0, 1, 2]
    bcast_S1x16384x64_S64x16384x64_0_1_2 (broadcastInDim S1x16384x64 ![1, 2] bcast_S16384x64_S1x16384x64_1_2 s))))
    (constant S_ .f32 0x00000000#32) reducesTo_S64x16384x64_S16384x64_d0 h_S_)) s

variable (m : (ℓ : Loc nD τ sig) → Buf (Elt Ideal) ℓ)

/-- The reference's result is these steps in turn. -/
theorem res_eq (c : Dev nD) :
    Value.res_out0 m c
      = logSum
          (densities (m ((c.tc : Thread nD τ).loc main_arg0)) (m ((c.tc : Thread nD τ).loc main_arg1))
            (m ((c.tc : Thread nD τ).loc main_arg2)) (weights (m ((c.tc : Thread nD τ).loc main_arg3))))
          (finite (greatest (densities (m ((c.tc : Thread nD τ).loc main_arg0)) (m ((c.tc : Thread nD τ).loc main_arg1))
            (m ((c.tc : Thread nD τ).loc main_arg2)) (weights (m ((c.tc : Thread nD τ).loc main_arg3)))))) := rfl

/-! ## Each step at an index -/

theorem centred_apply (x3 : FVec Ideal S64x1x1 .f32) (k : Fin 64) :
    (centred x3 (ix3 k 0 0) : EReal) = x3 (ix3 k 0 0) - max ⊥ (Mixture.top fun i => x3 (ix3 i 0 0)) := by
  unfold centred
  pointwise
  rw [Mixture.ofBits_negInf]
  rfl

theorem weights_apply (x3 : FVec Ideal S64x1x1 .f32) (k : Fin 64) :
    (weights x3 (ix3 k 0 0) : EReal)
      = Ideal.div (Ideal.exp (x3 (ix3 k 0 0) - max ⊥ (Mixture.top fun i => x3 (ix3 i 0 0))))
          (∑ i, Ideal.exp (x3 (ix3 i 0 0) - max ⊥ (Mixture.top fun i => x3 (ix3 i 0 0)))) := by
  unfold weights
  simp only [← centred_apply]
  generalize centred x3 = v
  pointwise

theorem densities_apply (x0 : FVec Ideal S16384x64 .f32) (x1 x2 : FVec Ideal S64x64 .f32) (x3 : FVec Ideal S64x1x1 .f32)
    (k : Fin 64) (b : Fin 16384) (j : Fin 64) :
    (densities x0 x1 x2 (weights x3) (ix3 k b j) : EReal)
      = Mixture.component (x0 (ix2 b j)) (fun k => x1 (ix2 k j)) (fun k => x2 (ix2 k j)) (fun k => x3 (ix3 k 0 0)) k := by
  unfold densities Mixture.component
  rw [← weights_apply]
  generalize weights x3 = v
  pointwise
  rw [Mixture.ofBits_half, Mixture.ofBits_two, ← Mixture.ofBits_negHalf, ← Mixture.ofBits_twoPi]
  rfl

theorem greatest_apply (g : FVec Ideal S64x16384x64 .f32) (b : Fin 16384) (j : Fin 64) :
    (greatest g (ix2 b j) : EReal) = Mixture.top fun k => g (ix3 k b j) := by
  unfold greatest
  pointwise
  rw [Mixture.ofBits_negInf]
  rfl

theorem finite_apply (r : FVec Ideal S16384x64 .f32) (b : Fin 16384) (j : Fin 64) :
    (finite r (ix2 b j) : EReal) = if max (r (ix2 b j)) (-r (ix2 b j)) < ⊤ then r (ix2 b j) else 0 := by
  unfold finite
  pointwise
  rw [show id (constant (F := Ideal) S_ .f32 0x00000000#32) ix0 = (0 : EReal) from Ideal.ofBits_zero_f32,
    Mixture.ofBits_posInf, Ideal.absf_def]

theorem logSum_apply (g : FVec Ideal S64x16384x64 .f32) (s : FVec Ideal S16384x64 .f32) (b : Fin 16384) (j : Fin 64) :
    (logSum g s (ix2 b j) : EReal)
      = Ideal.log (∑ k, Ideal.exp (g (ix3 k b j) - s (ix2 b j))) + s (ix2 b j) := by
  unfold logSum
  pointwise

/-- At row `b` and column `j` the result is the mixture's log density at the point there, over the column's components. -/
theorem res_apply (c : Dev nD) (b : Fin 16384) (j : Fin 64) :
    (Value.res_out0 m c : S16384x64.Idx → EReal) (ix2 b j)
      = Mixture.mixture ((m ((c.tc : Thread nD τ).loc main_arg0) : S16384x64.Idx → EReal) (ix2 b j))
          (fun k => (m ((c.tc : Thread nD τ).loc main_arg1) : S64x64.Idx → EReal) (ix2 k j))
          (fun k => (m ((c.tc : Thread nD τ).loc main_arg2) : S64x64.Idx → EReal) (ix2 k j))
          (fun k => (m ((c.tc : Thread nD τ).loc main_arg3) : S64x1x1.Idx → EReal) (ix3 k 0 0)) := by
  rw [res_eq, logSum_apply]
  simp only [finite_apply, greatest_apply, densities_apply]
  rfl

end Cert.ReferenceIdeal.Term

end
-- ==== Proof.Finite.lean ====
/- The precondition, read: every element of every argument is a real. -/
module

public import proofs.«01_k».proof.Pre_finite
public import proofs.«01_k».proof.Proof.Mixture
public import Idealize.ShloMosaic.Lib.ReduceAll

@[expose] public section

set_option maxRecDepth 16384

noncomputable section

namespace Cert.Pre_finite.Read

open Cert.Pre_finite Idealize.ShloMosaic

theorem facts : Facts where
  bcast_S_S16384x64 := by decide
  reducesTo_S16384x64_S_d0_1 := by decide
  h_S_ := by decide
  bcast_S_S64x64 := by decide
  reducesTo_S64x64_S_d0_1 := by decide
  bcast_S_S64x1x1 := by decide
  reducesTo_S64x1x1_S_d0_1_2 := by decide

/-- An extended real whose absolute value is below infinity is a real. -/
theorem real_of_abs_lt {x : EReal} (h : max x (-x) < ⊤) : ∃ r : ℝ, x = r := by
  induction x with
  | bot => simp at h
  | coe r => exact ⟨r, rfl⟩
  | top => simp at h

instance : Subsingleton S_.Idx := ⟨fun a b => funext fun i => i.elim0⟩

theorem and_one {a b : BitVec 1} (h : IntOp.andi a b = 1#1) : a = 1#1 ∧ b = 1#1 := by
  revert a b; decide

/-- One argument's test, met, says that each of its elements is a real. -/
theorem real_of_test {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32)))
      (constantI S_ 1 1#1) hr hu j = 1#1) (i : s.Idx) : ∃ r : ℝ, (x i : EReal) = r := by
  have e := Host.reduce_andi_all _ _ hr hu j h i
  have e' : Ideal.cmp .olt (max (x i : EReal) (-x i)) (Ideal.ofBits .f32 0x7F800000#32) = 1#1 := e
  rw [Mixture.ofBits_posInf] at e'
  refine real_of_abs_lt ?_
  by_contra hn
  simp [Ideal.cmp, hn] at e'

variable [Facts]

/-- The precondition says that each element of each argument is a real. -/
theorem real_of_finite (x0 : FVec Ideal S16384x64 .f32) (x1 x2 : FVec Ideal S64x64 .f32) (x3 : FVec Ideal S64x1x1 .f32)
    (h : fn (F := Ideal) x0 x1 x2 x3 = fun _ => 1#1) :
    (∀ i, ∃ r : ℝ, (x0 i : EReal) = r) ∧ (∀ i, ∃ r : ℝ, (x1 i : EReal) = r)
      ∧ (∀ i, ∃ r : ℝ, (x2 i : EReal) = r) ∧ (∀ i, ∃ r : ℝ, (x3 i : EReal) = r) := by
  have j : S_.Idx := fun i => i.elim0
  have e := congrFun h j
  dsimp only [fn, fn_part1] at e
  obtain ⟨e, h3⟩ := and_one e
  obtain ⟨e, h2⟩ := and_one e
  obtain ⟨h0, h1⟩ := and_one e
  exact ⟨real_of_test x0 _ _ _ j h0, real_of_test x1 _ _ _ j h1, real_of_test x2 _ _ _ j h2, real_of_test x3 _ _ _ j h3⟩

end Cert.Pre_finite.Read

end
-- ==== Proof.lean ====
/- The claims, proved: the frames of the three programs, the two constants the idealization names, and that the kernel
   and the reference, over the extended reals, end at equal results on finite arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Mixture
public import proofs.«01_k».proof.Proof.Body
public import proofs.«01_k».proof.Proof.Result
public import proofs.«01_k».proof.Proof.Reference
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

attribute [local instance] Cert.Pre_finite.Read.facts

/-- The reference runs, leaves its arguments, and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Each named constant rounds to the literal it stands for. -/
theorem preserves : Cert.preserves_Kernel_KernelIdeal :=
  ⟨IdealRules.named_const.statement Cert.KernelIdeal.κ "shifted_log_norm" .f32 0x421C5302#32 _ rfl,
    IdealRules.named_const.statement Cert.KernelIdeal.κ "shift" .f32 0x42200000#32 _ rfl⟩

/-- On finite arguments the kernel's result, the fused form, is the reference's, the mixture's log density. -/
theorem algebraic : Cert.algebraic_KernelIdeal_ReferenceIdeal_pre_finite := by
  intro m ρ m' ρ' hpre hagree
  refine ⟨_, Cert.KernelIdeal.Result.run m ρ, (θ_run Cert.ReferenceIdeal.defs _ _).mono
    (fun _ h c => ⟨(h c).1.trans ?_, (h c).2⟩) (Cert.ReferenceIdeal.Value.run (F := Ideal) m' ρ')⟩
  obtain ⟨r0, r1, r2, r3⟩ := Cert.Pre_finite.Read.real_of_finite _ _ _ _ (hpre c)
  obtain ⟨e0, e1, e2, e3⟩ := hagree c
  funext i
  obtain ⟨b, j, rfl⟩ : ∃ (b : Fin 16384) (j : Fin 64), i = (ix2 b j : Cert.ReferenceIdeal.S16384x64.Idx) :=
    ⟨i 0, i 1, by funext a; fin_cases a <;> rfl⟩
  refine (Cert.ReferenceIdeal.Term.res_apply m' c b j).trans ?_
  refine Eq.trans ?_ (Cert.KernelIdeal.Result.result_apply m c b j).symm
  rw [e0, e1, e2, e3]
  exact (Mixture.fused_eq_mixture _ _ _ _ (r0 _) (fun k => r1 _) (fun k => r2 _) (fun k => r3 _)).symm

theorem claim : Cert.Claim :=
  ⟨Cert.Kernel.Gen.facts, Cert.KernelIdeal.Gen.facts, Cert.ReferenceIdeal.Gen.facts, Cert.Pre_finite.Read.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, preserves,
    algebraic⟩

end Cert.Proof

end
